-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S160x1x2000 : Shape := ⟨3, ![160, 1, 2000]⟩
abbrev S1x1 : Shape := ⟨2, ![1, 1]⟩
abbrev S256x128 : Shape := ⟨2, ![256, 128]⟩
abbrev S320000x1 : Shape := ⟨2, ![320000, 1]⟩
abbrev S1x1x2000 : Shape := ⟨3, ![1, 1, 2000]⟩
abbrev S2000x128 : Shape := ⟨2, ![2000, 128]⟩
abbrev S2000x1 : Shape := ⟨2, ![2000, 1]⟩
abbrev S2000 : Shape := ⟨1, ![2000]⟩
abbrev S2000x256 : Shape := ⟨2, ![2000, 256]⟩

abbrev nBuf : Space → Nat
  | .hbm => 8
  | .vmem => 9
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S160x1x2000, .i32⟩
  | .hbm, ⟨5, _⟩ => ⟨S1x1, .f32⟩
  | .hbm, ⟨6, _⟩ => ⟨S256x128, .f32⟩
  | .hbm, ⟨7, _⟩ => ⟨S320000x1, .f32⟩
  | .local _ .vmem, ⟨0, _⟩ => ⟨S1x1x2000, .i32⟩
  | .local _ .vmem, ⟨1, _⟩ => ⟨S1x1x2000, .i32⟩
  | .local _ .vmem, ⟨2, _⟩ => ⟨S2000x128, .f32⟩
  | .local _ .vmem, ⟨3, _⟩ => ⟨S2000x128, .f32⟩
  | .local _ .vmem, ⟨4, _⟩ => ⟨S128x1, .f32⟩
  | .local _ .vmem, ⟨5, _⟩ => ⟨S1x1, .f32⟩
  | .local _ .vmem, ⟨6, _⟩ => ⟨S256x128, .f32⟩
  | .local _ .vmem, ⟨7, _⟩ => ⟨S2000x1, .f32⟩
  | .local _ .vmem, ⟨8, _⟩ => ⟨S2000x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![160], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S320000x1 : Shape := ⟨2, ![320000, 1]⟩
abbrev S1x1 : Shape := ⟨2, ![1, 1]⟩
abbrev S_ : Shape := ⟨0, ![]⟩
abbrev S256x128 : Shape := ⟨2, ![256, 128]⟩

abbrev nBuf : Space → Nat
  | .hbm => 22
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S320000x1, .f32⟩
  | .hbm, ⟨5, _⟩ => ⟨S1x1, .f32⟩
  | .hbm, ⟨6, _⟩ => ⟨S320000x1, .f32⟩
  | .hbm, ⟨7, _⟩ => ⟨S320000x1, .f32⟩
  | .hbm, ⟨8, _⟩ => ⟨S320000x1, .f32⟩
  | .hbm, ⟨9, _⟩ => ⟨S320000x1, .f32⟩
  | .hbm, ⟨10, _⟩ => ⟨S_, .f32⟩
  | .hbm, ⟨11, _⟩ => ⟨S320000x1, .f32⟩
  | .hbm, ⟨12, _⟩ => ⟨S320000x1, .f32⟩
  | .hbm, ⟨13, _⟩ => ⟨S_, .f32⟩
  | .hbm, ⟨14, _⟩ => ⟨S320000x1, .f32⟩
  | .hbm, ⟨15, _⟩ => ⟨S320000x1, .f32⟩
  | .hbm, ⟨16, _⟩ => ⟨S320000x128, .f32⟩
  | .hbm, ⟨17, _⟩ => ⟨S320000x128, .f32⟩
  | .hbm, ⟨18, _⟩ => ⟨S_, .f32⟩
  | .hbm, ⟨19, _⟩ => ⟨S256x128, .f32⟩
  | .hbm, ⟨20, _⟩ => ⟨S320000x1, .i32⟩
  | .hbm, ⟨21, _⟩ => ⟨S256x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Spec.lean ====
/- What the problem computes, written over indices, and the one fact about sums that the blocks need. -/
module

public import Idealize.ShloMosaic.PureOps.Ideal.Laws
public import Idealize.ShloMosaic.Lib.ValueIdx

@[expose] public section

noncomputable section

namespace Cert.EdgeSum

open Idealize.ShloMosaic Idealize.ShloMosaic.ValueIdx
open scoped BigOperators

/-- The edge features: one row of 128 numbers for each of the 320000 edges. -/
abbrev Feats := (⟨2, ![320000, 128]⟩ : Shape).Idx → EReal
/-- The segment of each edge, a 32-bit word. -/
abbrev Ids := (⟨1, ![320000]⟩ : Shape).Idx → BitVec 32
/-- The linear layer's column of weights. -/
abbrev Col := (⟨2, ![128, 1]⟩ : Shape).Idx → EReal
/-- The linear layer's bias. -/
abbrev Bias := (⟨1, ![1]⟩ : Shape).Idx → EReal

/-- The weight of edge `e`: the sigmoid of its features' product with the column, plus the bias. -/
def edgeWeight (X : Feats) (W : Col) (b : Bias) (e : Fin 320000) : EReal :=
  Ideal.logistic ((∑ k : Fin 128, X (ix2 e k) * W (ix2 k 0)) + b (ix1 0))

/-- What edge `e` adds to feature `c` of segment `s`: its weighted feature if it belongs to `s`, else nothing. -/
def share (X : Feats) (ids : Ids) (W : Col) (b : Bias) (s : Fin 256) (c : Fin 128) (e : Fin 320000) : EReal :=
  if (ids (ix1 e)).toInt = (s.val : Int) then X (ix2 e c) * edgeWeight X W b e else 0

/-- Feature `c` of segment `s`: the sum of all edges' shares. -/
def segmentSum (X : Feats) (ids : Ids) (W : Col) (b : Bias) (s : Fin 256) (c : Fin 128) : EReal :=
  ∑ e : Fin 320000, share X ids W b s c e

/-- The shares of the edges with numbers below `n`. -/
def partialSum (X : Feats) (ids : Ids) (W : Col) (b : Bias) (s : Fin 256) (c : Fin 128) (n : ℕ) : EReal :=
  ∑ i ∈ Finset.range n, if h : i < 320000 then share X ids W b s c ⟨i, h⟩ else 0

/-- No edges, no share. -/
theorem partialSum_zero (X : Feats) (ids : Ids) (W : Col) (b : Bias) (s : Fin 256) (c : Fin 128) :
    partialSum X ids W b s c 0 = 0 := Finset.sum_range_zero _

/-- All edges: the whole sum. -/
theorem partialSum_all (X : Feats) (ids : Ids) (W : Col) (b : Bias) (s : Fin 256) (c : Fin 128) :
    partialSum X ids W b s c 320000 = segmentSum X ids W b s c := by
  unfold partialSum segmentSum
  rw [Finset.sum_range]
  exact Finset.sum_congr rfl fun e _ => dif_pos e.isLt

/-- The edge at position `r` of block `t`. -/
def edgeAt (t : ℕ) (ht : t < 160) (r : Fin 2000) : Fin 320000 := ⟨2000 * t + r.val, by have := r.isLt; omega⟩

/-- The edges of block `t` extend the sum over the blocks before it. -/
theorem partialSum_block (X : Feats) (ids : Ids) (W : Col) (b : Bias) (s : Fin 256) (c : Fin 128) (t : ℕ) (ht : t < 160) :
    partialSum X ids W b s c (2000 * (t + 1))
      = partialSum X ids W b s c (2000 * t) + ∑ r : Fin 2000, share X ids W b s c (edgeAt t ht r) := by
  unfold partialSum
  rw [Nat.mul_succ, Finset.sum_range_add, Finset.sum_range (n := 2000)]
  refine congrArg _ (Finset.sum_congr rfl fun r _ => ?_)
  exact dif_pos (show 2000 * t + r.val < 320000 by have := r.isLt; omega)

end Cert.EdgeSum

end
-- ==== Proof.RefValue.lean ====
/- What the reference computes, read at an index: each edge's weight, and each segment's sum. -/
module

public import proofs.«01_k».proof.Proof.Spec
public import proofs.«01_k».proof.Proof.Gen.ReferenceIdeal
public import Idealize.ShloMosaic.Lib.Pipeline.Value
public import Idealize.ShloMosaic.Lib.IdealHost

@[expose] public section

noncomputable section

namespace Cert.EdgeSum

open Idealize.ShloMosaic Idealize.ShloMosaic.ValueIdx
open Cert.ReferenceIdeal Cert.ReferenceIdeal.Gen
open scoped BigOperators

/-! ## The scatter: where an update row lands -/

/-- The printed segment sum's dimension numbers: row `e` of the updates goes to the operand's row named by index `e`. -/
abbrev sd := scatter_S256x128_S320000x1_S320000x128_1_0_0_1

/-- The row coordinate of element `(e, c)` of the updates is the index word of `e`, read signed. -/
theorem start_row (idx : IVec S320000x1 32) (e : Fin 320000) (c : Fin 128) :
    sd.start (ix2 e c) idx 0 = (idx (ix2 e 0)).toInt := by
  unfold ScatterDims.start
  rw [dif_pos (show (0 : Fin 2) ∈ sd.scatterDimsToOperandDims from List.mem_singleton.2 rfl)]
  refine congrArg (fun i => (idx i).toInt) (funext fun a => Fin.ext ?_)
  match a with
  | ⟨0, _⟩ => rfl
  | ⟨1, _⟩ => rfl

/-- The index has no word for the feature axis. -/
theorem start_col (idx : IVec S320000x1 32) (e : Fin 320000) (c : Fin 128) : sd.start (ix2 e c) idx 1 = 0 := by
  unfold ScatterDims.start
  rw [dif_neg (show ¬(1 : Fin 2) ∈ sd.scatterDimsToOperandDims from by
    show ¬(1 : Fin 2) ∈ ([0] : List (Fin 2)); decide)]

/-- The updates have no window coordinate on the row axis. -/
theorem window_row (e : Fin 320000) (c : Fin 128) : sd.window (ix2 e c) 0 = 0 := rfl

/-- On the feature axis the window coordinate is the update's feature. -/
theorem window_col (e : Fin 320000) (c : Fin 128) : sd.window (ix2 e c) 1 = c.val := rfl

/-- Element `(e, d)` of the updates is added at `(s, c)` exactly when edge `e`'s index is `s` and the features agree. -/
theorem lands_iff (idx : IVec S320000x1 32) (e : Fin 320000) (d : Fin 128) (s : Fin 256) (c : Fin 128) :
    sd.resultIdx? (ix2 e d) idx = some (ix2 s c) ↔ (idx (ix2 e 0)).toInt = (s.val : Int) ∧ d = c := by
  have hs := s.isLt
  have hd := d.isLt
  unfold ScatterDims.resultIdx?
  have h0 : sd.start (ix2 e d) idx 0 + (sd.window (ix2 e d) 0 : Int) = (idx (ix2 e 0)).toInt := by
    rw [start_row, window_row]; exact add_zero _
  have h1 : sd.start (ix2 e d) idx 1 + (sd.window (ix2 e d) 1 : Int) = (d.val : Int) := by
    rw [start_col, window_col]; exact zero_add _
  constructor
  · intro h
    split at h
    · rename_i hin
      have e0 := congrArg Fin.val (congrFun (Option.some.inj h) 0)
      have e1 := congrArg Fin.val (congrFun (Option.some.inj h) 1)
      have b0 := (hin 0).1
      change (sd.start (ix2 e d) idx 0 + (sd.window (ix2 e d) 0 : Int)).toNat = s.val at e0
      change (sd.start (ix2 e d) idx 1 + (sd.window (ix2 e d) 1 : Int)).toNat = c.val at e1
      rw [h0] at e0 b0
      rw [h1] at e1
      exact ⟨by omega, Fin.ext (by omega)⟩
    · exact absurd h (by simp)
  · rintro ⟨hi, rfl⟩
    rw [dif_pos (by
      intro a
      match a with
      | ⟨0, _⟩ =>
        show 0 ≤ sd.start (ix2 e d) idx 0 + (sd.window (ix2 e d) 0 : Int) ∧ sd.start (ix2 e d) idx 0 + (sd.window (ix2 e d) 0 : Int) < (256 : Int)
        rw [h0]; omega
      | ⟨1, _⟩ =>
        show 0 ≤ sd.start (ix2 e d) idx 1 + (sd.window (ix2 e d) 1 : Int) ∧ sd.start (ix2 e d) idx 1 + (sd.window (ix2 e d) 1 : Int) < (128 : Int)
        rw [h1]; omega)]
    refine congrArg some (funext fun a => Fin.ext ?_)
    match a with
    | ⟨0, _⟩ =>
      show (sd.start (ix2 e d) idx 0 + (sd.window (ix2 e d) 0 : Int)).toNat = s.val
      rw [h0]; omega
    | ⟨1, _⟩ =>
      show (sd.start (ix2 e d) idx 1 + (sd.window (ix2 e d) 1 : Int)).toNat = d.val
      rw [h1]; omega

/-- The segment sum at `(s, c)`: the operand there, plus column `c` of the updates over the edges whose index is `s`. -/
theorem scatter_read (x : FVec Ideal S256x128 .f32) (idx : IVec S320000x1 32) (upd : FVec Ideal S320000x128 .f32)
    (s : Fin 256) (c : Fin 128) :
    Host.scatterAdd sd x idx upd (ix2 s c)
      = x (ix2 s c) + ∑ e : Fin 320000, if (idx (ix2 e 0)).toInt = (s.val : Int) then upd (ix2 e c) else 0 := by
  show x (ix2 s c) + ∑ j ∈ Finset.univ.filter (fun j => sd.resultIdx? j idx = some (ix2 s c)), upd j = _
  refine congrArg _ ?_
  rw [Finset.sum_filter, sum_idx2]
  refine Finset.sum_congr rfl fun e _ => ?_
  simp only [lands_iff]
  by_cases h : (idx (ix2 e 0)).toInt = (s.val : Int)
  · simp only [h, true_and, if_true]
    exact (Finset.sum_ite_eq' Finset.univ c fun d => upd (ix2 e d)).trans (if_pos (Finset.mem_univ c))
  · simp only [h, false_and, if_false, Finset.sum_const_zero]

/-! ## The reference's two results -/

/-- The reference's product of the features with the column, at edge `e`. -/
theorem logits_read (X : FVec Ideal S320000x128 .f32) (W : FVec Ideal S128x1 .f32) (e : Fin 320000) :
    Host.dotGeneral dot_S320000x128_S128x1_S320000x1_1_0_0_1_n_n none X W (ix2 e 0)
      = ∑ k : Fin 128, X (ix2 e k) * W (ix2 k 0) := by
  show FloatOps.dotGeneral _ none _ X W (ix2 e 0) = _
  rw [Ideal.dotGeneral_apply,
    ← Equiv.sum_comp (contrEquiv1 dot_S320000x128_S128x1_S320000x1_1_0_0_1_n_n 128 rfl rfl).symm]
  refine Finset.sum_congr rfl fun k _ => ?_
  have hk := contrEquiv1_symm_val dot_S320000x128_S128x1_S320000x1_1_0_0_1_n_n 128 rfl rfl k
  refine congrArg₂ (· * ·) (congrArg X (funext fun a => Fin.ext ?_)) (congrArg W (funext fun a => Fin.ext ?_))
  · match a with
    | ⟨0, _⟩ => rfl
    | ⟨1, _⟩ => exact hk
  · match a with
    | ⟨0, _⟩ => exact hk
    | ⟨1, _⟩ => rfl

/-- The reference's weights, as the composed term of its run. -/
abbrev refWeights (X : FVec Ideal S320000x128 .f32) (W : FVec Ideal S128x1 .f32) (b : FVec Ideal S1 .f32) : FVec Ideal S320000x1 .f32 :=
  Host.divf (broadcastInDim S320000x1 ![] bcast_S_S320000x1 (constant S_ .f32 0x3F800000#32))
    (addf (broadcastInDim S320000x1 ![] bcast_S_S320000x1 (constant S_ .f32 0x3F800000#32))
      (Host.exp (Host.negf (addf (Host.dotGeneral dot_S320000x128_S128x1_S320000x1_1_0_0_1_n_n none X W)
        (broadcastInDim S320000x1 ![0, 1] bcast_S1x1_S320000x1_0_1 (broadcastInDim S1x1 ![1] bcast_S1_S1x1_1 b))))))

/-- The bias, spread over the edges, is the bias at every edge. -/
theorem bias_read (b : FVec Ideal S1 .f32) (e : Fin 320000) :
    broadcastInDim S320000x1 ![0, 1] bcast_S1x1_S320000x1_0_1 (broadcastInDim S1x1 ![1] bcast_S1_S1x1_1 b) (ix2 e 0) = b (ix1 0) :=
  (broadcastInDim_apply _ _ _ _ (ix2 0 0) (fun a => by match a with | ⟨0, _⟩ => rfl | ⟨1, _⟩ => rfl)).trans
    (broadcastInDim_apply _ _ _ _ (ix1 0) (fun a => by match a with | ⟨0, _⟩ => rfl))

/-- The reference's weight of edge `e`. -/
theorem refWeights_read (X : FVec Ideal S320000x128 .f32) (W : FVec Ideal S128x1 .f32) (b : FVec Ideal S1 .f32) (e : Fin 320000) :
    refWeights X W b (ix2 e 0) = edgeWeight X W b e := by
  show Ideal.div (Ideal.ofBits .f32 0x3F800000#32) (Ideal.ofBits .f32 0x3F800000#32 + Ideal.exp (-(_ + _))) = _
  rw [Ideal.ofBits_one_f32, logits_read, bias_read]
  rfl

/-- The reference's segment sums, as the composed term of its run. -/
abbrev refSums (X : FVec Ideal S320000x128 .f32) (ids : IVec S320000 32) (W : FVec Ideal S128x1 .f32) (b : FVec Ideal S1 .f32) :
    FVec Ideal S256x128 .f32 :=
  Host.scatterAdd sd (broadcastInDim S256x128 ![] bcast_S_S256x128 (constant S_ .f32 0x00000000#32))
    (broadcastInDim S320000x1 ![0] bcast_S320000_S320000x1_0 ids)
    (mulf X (broadcastInDim S320000x128 ![0, 1] bcast_S320000x1_S320000x128_0_1 (refWeights X W b)))

/-- The reference's sum of segment `s` at feature `c`. -/
theorem refSums_read (X : FVec Ideal S320000x128 .f32) (ids : IVec S320000 32) (W : FVec Ideal S128x1 .f32) (b : FVec Ideal S1 .f32)
    (s : Fin 256) (c : Fin 128) : refSums X ids W b (ix2 s c) = segmentSum X ids W b s c := by
  unfold refSums
  rw [scatter_read]
  have hz : broadcastInDim S256x128 ![] bcast_S_S256x128 (constant (F := Ideal) S_ .f32 0x00000000#32) (ix2 s c) = 0 :=
    Ideal.ofBits_zero_f32
  rw [hz, zero_add]
  refine Finset.sum_congr rfl fun e _ => ?_
  have hi : broadcastInDim S320000x1 ![0] bcast_S320000_S320000x1_0 ids (ix2 e 0) = ids (ix1 e) :=
    broadcastInDim_apply _ _ _ _ (ix1 e) (fun a => by match a with | ⟨0, _⟩ => rfl)
  have hw : broadcastInDim S320000x128 ![0, 1] bcast_S320000x1_S320000x128_0_1 (refWeights X W b) (ix2 e c) = edgeWeight X W b e :=
    (broadcastInDim_apply _ _ _ _ (ix2 e 0) (fun a => by match a with | ⟨0, _⟩ => rfl | ⟨1, _⟩ => rfl)).trans (refWeights_read X W b e)
  rw [hi]
  unfold share
  refine if_congr Iff.rfl ?_ rfl
  show X (ix2 e c) * _ = _
  rw [hw]

end Cert.EdgeSum

end
-- ==== Proof.Block.lean ====
/- What the kernel's body computes on one block of 2000 edges, read at an index. -/
module

public import proofs.«01_k».proof.Proof.Spec
public import proofs.«01_k».proof.Proof.Gen.KernelIdeal.Skeleton
public import Idealize.ShloMosaic.Lib.Pipeline.Value

@[expose] public section

noncomputable section

namespace Cert.EdgeSum

open Idealize.ShloMosaic Idealize.ShloMosaic.ValueIdx
open Cert.KernelIdeal Cert.KernelIdeal.Gen
open scoped BigOperators

/-! ## The two matrix products -/

/-- The block's product with the column: row `r` is the inner product over the 128 features. -/
theorem column_product (x : FVec Ideal S2000x128 .f32) (w : FVec Ideal S128x1 .f32) (r : Fin 2000) :
    matmul dot_S2000x128_S128x1_S2000x1_1_0_0_1_n_n none x w (constant S2000x1 .f32 0x00000000#32) (ix2 r 0)
      = ∑ k : Fin 128, x (ix2 r k) * w (ix2 k 0) := by
  show FloatOps.matmul _ none x w _ (ix2 r 0) = _
  rw [Ideal.matmul_constant_zero_apply,
    ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The product over the block's rows: entry `(s, c)` sums `u r s * x r c` over the 2000 edges. -/
theorem row_product (u : FVec Ideal S2000x256 .bf16) (x : FVec Ideal S2000x128 .bf16) (s : Fin 256) (c : Fin 128) :
    matmul dot_S2000x256_S2000x128_S256x128_0_0_1_1_n_n none u x (constant S256x128 .f32 0x00000000#32) (ix2 s c)
      = ∑ r : Fin 2000, u (ix2 r s) * x (ix2 r c) := by
  show FloatOps.matmul _ none u x _ (ix2 s c) = _
  rw [Ideal.matmul_constant_zero_apply,
    ← Equiv.sum_comp (contrEquiv1 dot_S2000x256_S2000x128_S256x128_0_0_1_1_n_n 2000 rfl rfl).symm]
  refine Finset.sum_congr rfl fun r _ => ?_
  have hr := contrEquiv1_symm_val dot_S2000x256_S2000x128_S256x128_0_0_1_1_n_n 2000 rfl rfl r
  refine congrArg₂ (· * ·) (congrArg u (funext fun a => Fin.ext ?_)) (congrArg x (funext fun a => Fin.ext ?_))
  · match a with
    | ⟨0, _⟩ => exact hr
    | ⟨1, _⟩ => rfl
  · match a with
    | ⟨0, _⟩ => exact hr
    | ⟨1, _⟩ => rfl

/-! ## The weights of a block -/

/-- The block's weight at row `r`: the sigmoid of the inner product plus the bias. -/
theorem weights_block (x : FVec Ideal S2000x128 .f32) (w : FVec Ideal S128x1 .f32) (b : FVec Ideal S1x1 .f32) (r : Fin 2000) :
    k0_pay1 (F := Ideal) x w b (ix2 r 0) = Ideal.logistic ((∑ k : Fin 128, x (ix2 r k) * w (ix2 k 0)) + b (ix2 0 0)) := by
  have hb : extractAt ![0, 0] b inpos_S1x1_p0_0 = b (ix2 0 0) := congrArg b (funext fun a => Fin.ext (by
    match a with
    | ⟨0, _⟩ => rfl
    | ⟨1, _⟩ => rfl))
  show Ideal.logistic (matmul dot_S2000x128_S128x1_S2000x1_1_0_0_1_n_n none x w (constant S2000x1 .f32 0x00000000#32) (ix2 r 0)
    + extractAt ![0, 0] b inpos_S1x1_p0_0) = _
  rw [column_product, hb]

/-! ## The segment indicator -/

/-- A word equals the word of `s < 256` exactly when, read signed, it is the number `s`. -/
theorem word_eq_iff (v : BitVec 32) (s : Fin 256) : v = BitVec.ofNat 32 s.val ↔ v.toInt = (s.val : Int) := by
  have hs := s.isLt
  constructor
  · rintro rfl
    rw [BitVec.toInt_ofNat']
    exact Int.bmod_eq_of_le (by omega) (by omega)
  · intro h
    have h2 := BitVec.ofInt_toInt (x := v)
    rw [h] at h2
    rw [← h2]
    exact BitVec.ofInt_natCast ..

/-- The comparison bit widened to a word and read as a number is one where the words are equal and zero elsewhere. -/
theorem indicator (v : BitVec 32) (s : Fin 256) :
    ((((Scalar.cmpi .eq v (BitVec.ofNat 32 s.val)).setWidth 32).toInt : ℝ) : EReal) = if v.toInt = (s.val : Int) then 1 else 0 := by
  by_cases h : v.toInt = (s.val : Int)
  · rw [if_pos h, (word_eq_iff v s).mpr h]
    simp [Scalar.cmpi, IntOp.cmpi]
  · have hne : (v == BitVec.ofNat 32 s.val) = false := beq_eq_false_iff_ne.mpr fun e => h ((word_eq_iff v s).mp e)
    rw [if_neg h]
    simp [Scalar.cmpi, IntOp.cmpi, hne]

/-- The ids of a block, laid out as a column and repeated over the 256 segments, read at row `r`. -/
theorem ids_column (ids : IVec S1x1x2000 32) (r : Fin 2000) (s : Fin 256) :
    broadcastTo S2000x256 (shapeCast S2000x1 (shapeCast S2000 ids shapeCasts_S1x1x2000_S2000) shapeCasts_S2000_S2000x1)
      broadcasts_S2000x1_S2000x256 (ix2 r s) = ids (ix3 0 0 r) := by
  refine (broadcastTo_apply _ _ _ (ix2 r 0) (fun a => by match a with | ⟨0, _⟩ => rfl | ⟨1, _⟩ => rfl)).trans ?_
  refine (shapeCast_apply _ _ _ (ix1 r) ?_).trans (shapeCast_apply _ _ _ (ix3 0 0 r) ?_)
  · rw [Shape.rowMajor_val_one, Shape.rowMajor_val_two]
    show r.val = r.val * 1 + 0
    omega
  · rw [Shape.rowMajor_val_one, Shape.rowMajor_val_three]
    show (0 * 1 + 0) * 2000 + r.val = r.val
    omega

/-! ## The sums of a block -/

/-- What the block leaves at `(s, c)`: the running value there, plus feature `c` times weight over the rows of segment `s`. -/
theorem sums_block (x : FVec Ideal S2000x128 .f32) (w : FVec Ideal S128x1 .f32) (b : FVec Ideal S1x1 .f32)
    (ids : IVec S1x1x2000 32) (acc : FVec Ideal S256x128 .f32) (s : Fin 256) (c : Fin 128) :
    k0_pay3 (F := Ideal) x w b ids acc (ix2 s c)
      = acc (ix2 s c) + ∑ r : Fin 2000, if (ids (ix3 0 0 r)).toInt = (s.val : Int) then x (ix2 r c) * k0_pay1 (F := Ideal) x w b (ix2 r 0) else 0 := by
  show shapeCast S256x128 acc shapeCasts_S256x128_S256x128 (ix2 s c) + matmul dot_S2000x256_S2000x128_S256x128_0_0_1_1_n_n none _ _ _ (ix2 s c) = _
  rw [shapeCast_self, row_product]
  refine congrArg _ (Finset.sum_congr rfl fun r _ => ?_)
  have hw : broadcastTo S2000x256 (k0_pay1 (F := Ideal) x w b) broadcasts_S2000x1_S2000x256 (ix2 r s) = k0_pay1 (F := Ideal) x w b (ix2 r 0) :=
    broadcastTo_apply _ _ _ (ix2 r 0) (fun a => by match a with | ⟨0, _⟩ => rfl | ⟨1, _⟩ => rfl)
  have hi : iota .tc S2000x256 32 [1] iota_S2000x256_d1_w32 (ix2 r s) = BitVec.ofNat 32 s.val := by
    show BitVec.ofNat 32 (0 * 256 + s.val) = _
    rw [Nat.zero_mul, Nat.zero_add]
  show ((((Scalar.cmpi .eq (broadcastTo S2000x256 (shapeCast S2000x1 (shapeCast S2000 ids _) _) _ (ix2 r s))
    (iota .tc S2000x256 32 [1] iota_S2000x256_d1_w32 (ix2 r s))).setWidth 32).toInt : ℝ) : EReal)
    * broadcastTo S2000x256 (k0_pay1 (F := Ideal) x w b) broadcasts_S2000x1_S2000x256 (ix2 r s) * x (ix2 r c) = _
  rw [hw, hi, ids_column, indicator]
  by_cases h : (ids (ix3 0 0 r)).toInt = (s.val : Int)
  · rw [if_pos h, if_pos h, one_mul, mul_comm]
  · rw [if_neg h, if_neg h, zero_mul, zero_mul]

/-- The value the sums start from is zero everywhere. -/
theorem start_block (s : Fin 256) (c : Fin 128) : k0_pay2 (F := Ideal) (ix2 s c) = 0 := Ideal.ofBits_zero_f32

end Cert.EdgeSum

end
-- ==== Proof.Points.lean ====
/- What the kernel's body leaves in its two output buffers at each grid point, as functions of the blocks it reads. -/
module

public import proofs.«01_k».proof.Proof.Gen.KernelIdeal.Frame
public import Idealize.ShloMosaic.Lib.Pipeline.Value
public import Idealize.ShloMosaic.Lib.Tactic

@[expose] public section

noncomputable section

namespace Cert.EdgeSum

open Idealize.ShloMosaic Idealize.ShloMosaic.TcCoe Idealize.SL.Sem
open Cert.KernelIdeal Cert.KernelIdeal.Gen

variable {F : FTy → Type} [FloatOps F]
-- the point and the buffers of its six windows: ids, features, column, bias, sums, weights
variable (c : Dev nD) (i : grid0.Coords) (a1 : Memref sig .tc .vmem S1x1x2000 .i32) (h1 : a1.IsWhole)
  (a2 : Memref sig .tc .vmem S2000x128 .f32) (h2 : a2.IsWhole) (a3 : Memref sig .tc .vmem S128x1 .f32) (h3 : a3.IsWhole)
  (a4 : Memref sig .tc .vmem S1x1 .f32) (h4 : a4.IsWhole) (a5 : Memref sig .tc .vmem S256x128 .f32) (h5 : a5.IsWhole)
  (a6 : Memref sig .tc .vmem S2000x1 .f32) (h6 : a6.IsWhole)
-- what the four input buffers hold, and what the sums' buffer held before
variable (x0 : Vec F S1x1x2000 .i32) (x1 : Vec F S2000x128 .f32) (x2 : Vec F S128x1 .f32) (x3 : Vec F S1x1 .f32)
  (xo : Vec F S256x128 .f32)

/-- Two zero offsets. -/
theorem zeros2 : (![0, 0] : Fin 2 → Nat) = fun _ => 0 := funext fun a => by fin_cases a <;> rfl

/-- Three zero offsets. -/
theorem zeros3 : (![0, 0, 0] : Fin 3 → Nat) = fun _ => 0 := funext fun a => by fin_cases a <;> rfl

/-- At the first point the body leaves in the sums' buffer the first block's sums added to zero. -/
theorem left_A_4 (hc : cond0_0 i) :
    out0_A_4 c i a1 h1 a2 h2 a3 h3 a4 h4 a5 h5 a6 h6 hc x0 x1 x2 x3 = k0_pay3 x1 x2 x3 x0 k0_pay2 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S256x128) zeros2, View.readCov_unit_zero (S := S256x128) _ zeros2]
  simp only [View.readAt_eq_ld, h1.read_unread, h2.read_unread, h3.read_unread, h4.read_unread, h5.read_unread,
    View.ld_unit_zero (S := S2000x128) zeros2, View.ld_unit_zero (S := S128x1) zeros2, View.ld_unit_zero (S := S1x1) zeros2,
    View.ld_unit_zero (S := S1x1x2000) zeros3, View.ld_unit_zero (S := S256x128) zeros2]

/-- At a later point the body leaves in the sums' buffer the block's sums added to what the buffer held. -/
theorem left_B_4 (hc : ¬cond0_0 i) :
    out0_B_4 c i a1 h1 a2 h2 a3 h3 a4 h4 a5 h5 a6 h6 hc x0 x1 x2 x3 xo = k0_pay3 x1 x2 x3 x0 xo := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero zeros2]
  simp only [View.readAt_eq_ld, h1.read_unread, h2.read_unread, h3.read_unread, h4.read_unread, h5.read_unread,
    View.ld_unit_zero (S := S2000x128) zeros2, View.ld_unit_zero (S := S128x1) zeros2, View.ld_unit_zero (S := S1x1) zeros2,
    View.ld_unit_zero (S := S1x1x2000) zeros3, View.ld_unit_zero (S := S256x128) zeros2]

/-- At the first point the body leaves the block's weights in the weights' buffer. -/
theorem left_A_5 (hc : cond0_0 i) :
    out0_A_5 c i a1 h1 a2 h2 a3 h3 a4 h4 a5 h5 a6 h6 hc x0 x1 x2 x3 = k0_pay1 x1 x2 x3 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_unit_zero zeros2]
  simp only [View.readAt_eq_ld, h1.read_unread, h2.read_unread, h3.read_unread, h4.read_unread, h5.read_unread,
    View.ld_unit_zero (S := S2000x128) zeros2, View.ld_unit_zero (S := S128x1) zeros2, View.ld_unit_zero (S := S1x1) zeros2,
    View.ld_unit_zero (S := S1x1x2000) zeros3, View.ld_unit_zero (S := S256x128) zeros2]

/-- At a later point the body leaves the block's weights in the weights' buffer. -/
theorem left_B_5 (hc : ¬cond0_0 i) :
    out0_B_5 c i a1 h1 a2 h2 a3 h3 a4 h4 a5 h5 a6 h6 hc x0 x1 x2 x3 xo = k0_pay1 x1 x2 x3 := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero zeros2]
  simp only [View.readAt_eq_ld, h1.read_unread, h2.read_unread, h3.read_unread, h4.read_unread, h5.read_unread,
    View.ld_unit_zero (S := S2000x128) zeros2, View.ld_unit_zero (S := S128x1) zeros2, View.ld_unit_zero (S := S1x1) zeros2,
    View.ld_unit_zero (S := S1x1x2000) zeros3, View.ld_unit_zero (S := S256x128) zeros2]

end Cert.EdgeSum

end
-- ==== Proof.Inputs.lean ====
/- Which entries of the arguments each input block of the kernel holds. -/
module

public import proofs.«01_k».proof.Proof.Spec
public import proofs.«01_k».proof.Proof.Gen.KernelIdeal.Frame
public import Idealize.ShloMosaic.Lib.Pipeline.Value
public import Idealize.ShloMosaic.Lib.StableHlo.Run
public import Idealize.ShloMosaic.Lib.Tactic

@[expose] public section

noncomputable section

namespace Cert.EdgeSum

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (c : Dev nD)

/-- The features argument at launch. -/
abbrev featsOf : Feats := m ((c.tc : Thread nD τ).loc main_arg0)
/-- The segment ids argument at launch. -/
abbrev idsOf : Ids := m ((c.tc : Thread nD τ).loc main_arg1)
/-- The column argument at launch. -/
abbrev colOf : Col := m ((c.tc : Thread nD τ).loc main_arg2)
/-- The bias argument at launch. -/
abbrev biasOf : Bias := m ((c.tc : Thread nD τ).loc main_arg3)

/-! ## The reshaped arguments -/

/-- The ids as the kernel stages them: 160 rows of 2000. -/
theorem ids_reshaped : (V m c main_v0 : S160x1x2000.Idx → BitVec 32)
    = shapeCast S160x1x2000 (idsOf m c) shapeCasts_S320000_S160x1x2000 := by
  show StableHlo.after hostOps0 _ _ = _
  unfold hostOps0
  after_results
  rfl

/-- The bias as the kernel stages it: one entry. -/
theorem bias_reshaped : (V m c main_v1 : S1x1.Idx → EReal) = shapeCast S1x1 (biasOf m c) shapeCasts_S1_S1x1 := by
  show StableHlo.after hostOps0 _ _ = _
  unfold hostOps0
  after_results
  rfl

/-! ## Where each window's block starts -/

/-- The ids' block at point `t` is row `t`. -/
theorem ids_index : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The features' block at point `t` is the `t`-th group of 2000 rows. -/
theorem feats_index : ∀ t : Fin cfg0.N, win0_1.index t 0 = t.val ∧ win0_1.index t 1 = 0 :=
  (by decide +kernel : ∀ t : Fin grid0.N, win0_1.index t 0 = t.val ∧ win0_1.index t 1 = 0)

/-- The column's block is the whole column. -/
theorem col_index : ∀ t : Fin cfg0.N, win0_2.index t 0 = 0 ∧ win0_2.index t 1 = 0 :=
  (by decide +kernel : ∀ t : Fin grid0.N, win0_2.index t 0 = 0 ∧ win0_2.index t 1 = 0)

/-- The bias's block is the whole bias. -/
theorem bias_index : ∀ t : Fin cfg0.N, win0_3.index t 0 = 0 ∧ win0_3.index t 1 = 0 :=
  (by decide +kernel : ∀ t : Fin grid0.N, win0_3.index t 0 = 0 ∧ win0_3.index t 1 = 0)

/-- A point's number is below 160. -/
theorem point_lt (t : Fin cfg0.N) : t.val < 160 := lt_of_lt_of_eq t.isLt N_0

/-! ## The blocks read at an index -/

/-- Position `r` of the ids' block at point `t` is the id of edge `2000 t + r`. -/
theorem ids_block (t : Fin cfg0.N) (r : Fin 2000) :
    (iblk m c 0 t : S1x1x2000.Idx → BitVec 32) (ix3 0 0 r) = idsOf m c (ix1 (edgeAt t.val (point_lt t) r)) := by
  obtain ⟨i0, i1, i2⟩ := ids_index t
  unfold iblk
  rw [View.read_apply]
  have e : (((cfg0.win 0).blk t).view.emb (ix3 0 0 r) : S160x1x2000.Idx) = ix3 ⟨t.val, point_lt t⟩ 0 r := by
    funext a
    apply Fin.ext
    match a with
    | ⟨0, _⟩ => show win0_0.index t 0 * 1 + 1 * 0 = t.val; rw [i0]; omega
    | ⟨1, _⟩ => show win0_0.index t 1 * 1 + 1 * 0 = 0; rw [i1]
    | ⟨2, _⟩ => show win0_0.index t 2 * 2000 + 1 * r.val = r.val; rw [i2]; omega
  refine (congrArg (V m c main_v0 : S160x1x2000.Idx → BitVec 32) e).trans ?_
  rw [ids_reshaped]
  refine shapeCast_apply _ _ _ (ix1 (edgeAt t.val (point_lt t) r)) ?_
  rw [Shape.rowMajor_val_one, Shape.rowMajor_val_three]
  show 2000 * t.val + r.val = (t.val * 1 + 0) * 2000 + r.val
  omega

/-- Row `r` of the features' block at point `t` is the row of edge `2000 t + r`. -/
theorem feats_block (t : Fin cfg0.N) (r : Fin 2000) (k : Fin 128) :
    (iblk m c 1 t : S2000x128.Idx → EReal) (ix2 r k) = featsOf m c (ix2 (edgeAt t.val (point_lt t) r) k) := by
  obtain ⟨i0, i1⟩ := feats_index t
  unfold iblk
  rw [View.read_apply]
  have e : (((cfg0.win 1).blk t).view.emb (ix2 r k) : S320000x128.Idx) = ix2 (edgeAt t.val (point_lt t) r) k := by
    funext a
    apply Fin.ext
    match a with
    | ⟨0, _⟩ => show win0_1.index t 0 * 2000 + 1 * r.val = 2000 * t.val + r.val; rw [i0]; omega
    | ⟨1, _⟩ => show win0_1.index t 1 * 128 + 1 * k.val = k.val; rw [i1]; omega
  refine (congrArg (V m c main_arg0 : S320000x128.Idx → EReal) e).trans ?_
  rw [V_main_arg0]

/-- The column's block holds the column. -/
theorem col_block (t : Fin cfg0.N) (k : Fin 128) :
    (iblk m c 2 t : S128x1.Idx → EReal) (ix2 k 0) = colOf m c (ix2 k 0) := by
  obtain ⟨i0, i1⟩ := col_index t
  unfold iblk
  rw [View.read_apply]
  have e : (((cfg0.win 2).blk t).view.emb (ix2 k 0) : S128x1.Idx) = ix2 k 0 := by
    funext a
    apply Fin.ext
    match a with
    | ⟨0, _⟩ => show win0_2.index t 0 * 128 + 1 * k.val = k.val; rw [i0]; omega
    | ⟨1, _⟩ => show win0_2.index t 1 * 1 + 1 * 0 = 0; rw [i1]
  refine (congrArg (V m c main_arg2 : S128x1.Idx → EReal) e).trans ?_
  rw [V_main_arg2]

/-- The bias's block holds the bias. -/
theorem bias_block (t : Fin cfg0.N) : (iblk m c 3 t : S1x1.Idx → EReal) (ix2 0 0) = biasOf m c (ix1 0) := by
  obtain ⟨i0, i1⟩ := bias_index t
  unfold iblk
  rw [View.read_apply]
  have e : (((cfg0.win 3).blk t).view.emb (ix2 0 0) : S1x1.Idx) = ix2 0 0 := by
    funext a
    apply Fin.ext
    match a with
    | ⟨0, _⟩ => show win0_3.index t 0 * 1 + 1 * 0 = 0; rw [i0]
    | ⟨1, _⟩ => show win0_3.index t 1 * 1 + 1 * 0 = 0; rw [i1]
  refine (congrArg (V m c main_v1 : S1x1.Idx → EReal) e).trans ?_
  rw [bias_reshaped]
  refine shapeCast_apply _ _ _ (ix1 0) ?_
  rw [Shape.rowMajor_val_one, Shape.rowMajor_val_two]
  rfl

end Cert.EdgeSum

end
-- ==== Proof.Arrays.lean ====
/- What the kernel's two result arrays hold after its run, as functions of its arguments. -/
module

public import proofs.«01_k».proof.Proof.Block
public import proofs.«01_k».proof.Proof.Points
public import proofs.«01_k».proof.Proof.Inputs
public import proofs.«01_k».proof.Proof.Gen.KernelIdeal.Value

@[expose] public section

noncomputable section

namespace Cert.EdgeSum

open Idealize.ShloMosaic Idealize.ShloMosaic.TcCoe Idealize.ShloMosaic.ValueIdx Idealize.SL.Sem
open Cert.KernelIdeal Cert.KernelIdeal.Gen Cert.KernelIdeal.Value
open scoped BigOperators

variable (m : (ℓ : Loc nD τ sig) → Buf (Elt Ideal) ℓ) (ρ : Dev nD → PrngReg) (c : Dev nD)

/-! ## One point -/

/-- The weights computed at point `t` are those of the edges of block `t`. -/
theorem point_weights (t : Fin cfg0.N) (r : Fin 2000) :
    k0_pay1 (F := Ideal) (iblk m c 1 t) (iblk m c 2 t) (iblk m c 3 t) (ix2 r 0)
      = edgeWeight (featsOf m c) (colOf m c) (biasOf m c) (edgeAt t.val (point_lt t) r) := by
  rw [weights_block]
  unfold edgeWeight
  refine congrArg Ideal.logistic (congrArg₂ (· + ·) (Finset.sum_congr rfl fun k _ => ?_) (bias_block m c t))
  exact congrArg₂ (· * ·) (feats_block m c t r k) (col_block m c t k)

/-- The sums computed at point `t` add block `t`'s shares to the running value. -/
theorem point_sums (t : Fin cfg0.N) (acc : FVec Ideal S256x128 .f32) (s : Fin 256) (d : Fin 128) :
    k0_pay3 (F := Ideal) (iblk m c 1 t) (iblk m c 2 t) (iblk m c 3 t) (iblk m c 0 t) acc (ix2 s d)
      = acc (ix2 s d) + ∑ r : Fin 2000,
          share (featsOf m c) (idsOf m c) (colOf m c) (biasOf m c) s d (edgeAt t.val (point_lt t) r) := by
  rw [sums_block]
  refine congrArg _ (Finset.sum_congr rfl fun r _ => ?_)
  unfold share
  rw [point_weights]
  exact if_congr (by rw [← ids_block m c t r])
    (congrArg (· * _) (feats_block m c t r d)) rfl

/-! ## All points -/

/-- The first point starts the sums from zero. -/
theorem first_sums (t : Fin cfg0.N) (h0 : t.val % 160 = 0) : (outsAt0 m c t.val t.isLt).1
    = k0_pay3 (F := Ideal) (iblk m c 1 t) (iblk m c 2 t) (iblk m c 3 t) (iblk m c 0 t) (k0_pay2 (F := Ideal)) := by
  rw [outsAt0_A m c t h0]
  dsimp only
  rw [left_A_4]

/-- A later point goes on from what the point before it left. -/
theorem later_sums (t : Fin cfg0.N) (h0 : ¬t.val % 160 = 0) : (outsAt0 m c t.val t.isLt).1
    = k0_pay3 (F := Ideal) (iblk m c 1 t) (iblk m c 2 t) (iblk m c 3 t) (iblk m c 0 t)
        (outsAt0 m c (t.val - 1) (Nat.lt_of_le_of_lt (Nat.sub_le _ _) t.isLt)).1 := by
  rw [outsAt0_B m c t h0]
  dsimp only
  rw [left_B_4]

/-- After point `n` the sums' buffer holds the shares of the edges of blocks `0` to `n`. -/
theorem running_sums (s : Fin 256) (d : Fin 128) : ∀ (n : ℕ) (h : n < cfg0.N),
    (outsAt0 m c n h).1 (ix2 s d)
      = partialSum (featsOf m c) (idsOf m c) (colOf m c) (biasOf m c) s d (2000 * (n + 1))
  | 0, h => by
    refine (congrFun (first_sums m c ⟨0, h⟩ rfl) (ix2 s d)).trans ?_
    rw [point_sums, start_block, partialSum_block _ _ _ _ _ _ 0 (by omega), Nat.mul_zero, partialSum_zero]
  | n + 1, h => by
    have hn : n + 1 < 160 := lt_of_lt_of_eq h N_0
    refine (congrFun (later_sums m c ⟨n + 1, h⟩ (show ¬(n + 1) % 160 = 0 by omega)) (ix2 s d)).trans ?_
    rw [point_sums, partialSum_block _ _ _ _ _ _ (n + 1) hn]
    exact congrArg (· + _) (running_sums s d n (Nat.lt_of_succ_lt h))

/-- After point `t` the weights' buffer holds the weights of the edges of block `t`. -/
theorem point_left (t : Fin cfg0.N) (r : Fin 2000) :
    (outsAt0 m c t.val t.isLt).2 (ix2 r 0)
      = edgeWeight (featsOf m c) (colOf m c) (biasOf m c) (edgeAt t.val (point_lt t) r) := by
  by_cases h0 : t.val % 160 = 0
  · rw [outsAt0_A m c t h0]
    dsimp only
    rw [left_A_5]
    exact point_weights m c t r
  · rw [outsAt0_B m c t h0]
    dsimp only
    rw [left_B_5]
    exact point_weights m c t r

/-! ## The result arrays -/

/-- The first result: the segment sums. -/
def sumsArray : S256x128.Idx → EReal := fun i =>
  segmentSum (featsOf m c) (idsOf m c) (colOf m c) (biasOf m c) (i 0) (i 1)

/-- The second result: the edges' weights. -/
def weightsArray : S320000x1.Idx → EReal := fun i =>
  edgeWeight (featsOf m c) (colOf m c) (biasOf m c) (i 0)

/-- The sums' block is the whole array at every point. -/
theorem sums_index : ∀ t : Fin cfg0.N, win0_4.index t 0 = 0 ∧ win0_4.index t 1 = 0 :=
  (by decide +kernel : ∀ t : Fin grid0.N, win0_4.index t 0 = 0 ∧ win0_4.index t 1 = 0)

/-- The weights' block at point `t` is the `t`-th group of 2000 rows. -/
theorem weights_index : ∀ t : Fin cfg0.N, win0_5.index t 0 = t.val ∧ win0_5.index t 1 = 0 :=
  (by decide +kernel : ∀ t : Fin grid0.N, win0_5.index t 0 = t.val ∧ win0_5.index t 1 = 0)

/-- Index `(s, d)` of the sums' block is index `(s, d)` of the array. -/
theorem sums_emb (t : Fin cfg0.N) (s : Fin 256) (d : Fin 128) :
    (((cfg0.win 4).blk t).view.emb (ix2 s d) : S256x128.Idx) = ix2 s d := by
  obtain ⟨i0, i1⟩ := sums_index t
  funext a
  apply Fin.ext
  match a with
  | ⟨0, _⟩ => show win0_4.index t 0 * 256 + 1 * s.val = s.val; rw [i0]; omega
  | ⟨1, _⟩ => show win0_4.index t 1 * 128 + 1 * d.val = d.val; rw [i1]; omega

/-- Row `r` of the weights' block at point `t` is the row of edge `2000 t + r`. -/
theorem weights_emb (t : Fin cfg0.N) (r : Fin 2000) :
    (((cfg0.win 5).blk t).view.emb (ix2 r 0) : S320000x1.Idx) = ix2 (edgeAt t.val (point_lt t) r) 0 := by
  obtain ⟨i0, i1⟩ := weights_index t
  funext a
  apply Fin.ext
  match a with
  | ⟨0, _⟩ => show win0_5.index t 0 * 2000 + 1 * r.val = 2000 * t.val + r.val; rw [i0]; omega
  | ⟨1, _⟩ => show win0_5.index t 1 * 1 + 1 * 0 = 0; rw [i1]

/-- The one write-back of the sums, after the last point, writes the segment sums. -/
theorem flushed_sums (t : Fin cfg0.N) (hf : (cfg0.win 4).flush t = true) :
    (dats m 0 c).flushed 4 t = ((cfg0.win 4).blk t).view.read (Elt Ideal) (sumsArray m c) := by
  have ht : t.val = 159 := by have := (flush0_4 t).mp hf; have := point_lt t; omega
  rw [flushed4]
  refine funext fun (j : S256x128.Idx) => ?_
  obtain ⟨s, d, rfl⟩ : ∃ (s : Fin 256) (d : Fin 128), j = ix2 s d := ⟨j 0, j 1, eq_ix2 j⟩
  have hs : (outsAt0 m c t.val t.isLt).1 (ix2 s d) = sumsArray m c (ix2 s d) := by
    rw [running_sums, ht]
    exact partialSum_all ..
  rw [View.read_apply]
  have he : sumsArray m c (ix2 s d) = sumsArray m c (((cfg0.win 4).blk t).view.emb (ix2 s d)) :=
    congrArg (sumsArray m c) (sums_emb t s d).symm
  exact (hs.trans he).trans (cast_eq rfl _).symm

/-- Each point's write-back of the weights writes its edges' weights. -/
theorem flushed_weights (t : Fin cfg0.N) (_hf : (cfg0.win 5).flush t = true) :
    (dats m 0 c).flushed 5 t = ((cfg0.win 5).blk t).view.read (Elt Ideal) (weightsArray m c) := by
  rw [flushed5]
  refine funext fun (j : S2000x1.Idx) => ?_
  obtain ⟨r, rfl⟩ : ∃ r : Fin 2000, j = ix2 r 0 :=
    ⟨j 0, (eq_ix2 j).trans (congrArg (ix2 (j 0)) (Subsingleton.elim (α := Fin 1) _ _))⟩
  rw [View.read_apply]
  refine Eq.trans ?_ (congrArg (weightsArray m c) (weights_emb t r).symm)
  exact point_left m c t r

/-- The first result array ends holding the segment sums. -/
theorem final_sums : (dats m 0 c).arrAt 4 cfg0.N = sumsArray m c :=
  (dats m 0 c).arrAt_eq_of_cover 4 (sumsArray m c) (flushed_sums m c) fun (i : S256x128.Idx) => by
    have hN : 159 < cfg0.N := lt_of_lt_of_eq (by decide) N_0.symm
    refine ⟨⟨159, hN⟩, (flush0_4 _).mpr rfl, ?_⟩
    exact Eq.mp (congrArg (fun k : S256x128.Idx => k ∈ ((cfg0.win 4).blk ⟨159, hN⟩).view.set)
      ((sums_emb ⟨159, hN⟩ (i 0) (i 1)).trans (eq_ix2 i).symm)) (View.emb_mem_set ..)

/-- The second result array ends holding the edges' weights. -/
theorem final_weights : (dats m 0 c).arrAt 5 cfg0.N = weightsArray m c :=
  (dats m 0 c).arrAt_eq_of_cover 5 (weightsArray m c) (flushed_weights m c) fun (i : S320000x1.Idx) => by
    have hi : (i 0).val < 320000 := (i 0).isLt
    have hN : (i 0).val / 2000 < cfg0.N := lt_of_lt_of_eq (by omega) N_0.symm
    refine ⟨⟨(i 0).val / 2000, hN⟩, flush0_5 _, ?_⟩
    have e : i = ix2 (edgeAt ((i 0).val / 2000) (by omega) ⟨(i 0).val % 2000, by omega⟩) 0 := by
      refine (eq_ix2 i).trans (congrArg₂ ix2 (Fin.ext ?_) (Subsingleton.elim (α := Fin 1) _ _))
      show (i 0).val = 2000 * ((i 0).val / 2000) + (i 0).val % 2000
      omega
    exact Eq.mp (congrArg (fun k : S320000x1.Idx => k ∈ ((cfg0.win 5).blk ⟨(i 0).val / 2000, hN⟩).view.set)
      ((weights_emb ⟨(i 0).val / 2000, hN⟩ ⟨(i 0).val % 2000, by omega⟩).trans e.symm)) (View.emb_mem_set ..)

/-- The kernel's run: both result arrays as above, the four arguments unchanged. -/
theorem kernel_run : θ_run defs (onTc (τ := τ) (main (F := Ideal))) ⟨m, fun _ => 0, ρ⟩ fun r => ∀ c : Dev nD,
      r.2.mem ((c.tc : Thread nD τ).loc main_v2_0) = sumsArray m c
      ∧ r.2.mem ((c.tc : Thread nD τ).loc main_v2_1) = weightsArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_sums m c), (h c).2.1.trans (final_weights m c), (h c).2.2⟩)
    (run_blocks m ρ)

end Cert.EdgeSum

end
-- ==== Proof.lean ====
/- The five claims: the kernel, its reading over the extended reals and the reference each end without fault, their
   arguments unchanged and their semaphores at zero; the reading keeps the kernel's operations; and the reading and the
   reference compute the same segment sums and the same weights. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefValue
public import proofs.«01_k».proof.Proof.Arrays
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.ShloMosaic.ValueIdx Idealize.SL.Sem Cert.EdgeSum

/-- The reference leaves its arguments and every semaphore as they were. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference's segment sums are the array the kernel leaves. -/
theorem sums_eq (m : (ℓ : Loc Cert.KernelIdeal.nD Cert.KernelIdeal.τ Cert.KernelIdeal.sig) → Buf (Elt Ideal) ℓ)
    (c : Dev Cert.KernelIdeal.nD) : refSums (featsOf m c) (idsOf m c) (colOf m c) (biasOf m c) = sumsArray m c := by
  refine funext fun (i : Cert.KernelIdeal.S256x128.Idx) => ?_
  obtain ⟨s, d, rfl⟩ : ∃ (s : Fin 256) (d : Fin 128), i = ix2 s d := ⟨i 0, i 1, eq_ix2 i⟩
  exact refSums_read ..

/-- The reference's weights are the array the kernel leaves. -/
theorem weights_eq (m : (ℓ : Loc Cert.KernelIdeal.nD Cert.KernelIdeal.τ Cert.KernelIdeal.sig) → Buf (Elt Ideal) ℓ)
    (c : Dev Cert.KernelIdeal.nD) : refWeights (featsOf m c) (colOf m c) (biasOf m c) = weightsArray m c := by
  refine funext fun (i : Cert.KernelIdeal.S320000x1.Idx) => ?_
  obtain ⟨e, rfl⟩ : ∃ e : Fin 320000, i = ix2 e 0 :=
    ⟨i 0, (eq_ix2 i).trans (congrArg (ix2 (i 0)) (Subsingleton.elim (α := Fin 1) _ _))⟩
  exact refWeights_read ..

/-- Over the extended reals, from equal arguments, the kernel and the reference end with the same segment sums
    and the same weights. -/
theorem same_results : Cert.algebraic_KernelIdeal_ReferenceIdeal := by
  intro m ρ m' ρ' _ hagree
  refine ⟨fun c => sumsArray m c, fun c => weightsArray m c, kernel_run m ρ, ?_⟩
  refine (θ_run Cert.ReferenceIdeal.defs _ _).mono (fun _ h c => ?_) (Cert.ReferenceIdeal.Value.run (F := Ideal) m' ρ')
  obtain ⟨e0, e1, e2, e3⟩ := hagree c
  refine ⟨(h c).1.trans ?_, (h c).2.1.trans ?_, (h c).2.2⟩
  · rw [e0, e1, e2, e3]
    exact sums_eq m c
  · rw [e0, e2, e3]
    exact weights_eq m c

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
